-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x128 : Shape := ⟨3, ![16, 2048, 128]⟩
abbrev S16384x256 : Shape := ⟨2, ![16384, 256]⟩
abbrev S16384x128 : Shape := ⟨2, ![16384, 128]⟩
abbrev S_ : Shape := ⟨0, ![]⟩
abbrev S512x128 : Shape := ⟨2, ![512, 128]⟩
abbrev S16x1024x128 : Shape := ⟨3, ![16, 1024, 128]⟩

abbrev nBuf : Table → Nat
  | .hbm => 4
  | _ => 0

abbrev bufTy : (tb : Table) → Fin (nBuf tb) → BufTy
  | .hbm, ⟨0, _⟩ => ⟨S16x2048x128, .f32⟩
  | .hbm, ⟨1, _⟩ => ⟨S16384x256, .f32⟩
  | .hbm, ⟨2, _⟩ => ⟨S16384x128, .f32⟩
  | .hbm, ⟨3, _⟩ => ⟨S16x1024x128, .f32⟩
  | _, _ => ⟨S16x2048x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048x128 : Shape := ⟨3, ![16, 2048, 128]⟩
abbrev S16x1024x128 : Shape := ⟨3, ![16, 1024, 128]⟩

abbrev nBuf : Space → Nat
  | .hbm => 2
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x1024x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Even.lean ====
/-
  What the program computes, as a function of its argument alone.

  The argument is 16 batches of 2048 rows of 128 columns. Read row-major at 256 columns it is 16384 rows, each holding
  an even row of a batch in its left half and the odd row after it in its right half. The SparseCores keep the left
  halves; read row-major again at 16 batches these are the even rows of every batch (`tall_left_wide`).
-/
module

public import proofs.«01_k».proof.Proof.Gen.KernelIdeal
public import proofs.«01_k».proof.Proof.Gen.ReferenceIdeal
public import Idealize.ShloMosaic.Lib.Pipeline.Value
public import Idealize.ShloMosaic.Lib.Pointwise.ShapeOpsCore

@[expose] public section

noncomputable section

namespace Cert.Proof.EvenRows

open Cert.KernelIdeal Cert.KernelIdeal.Gen
open Idealize.ShloMosaic

variable {α : Type}

/-- The argument with two consecutive rows of 128 columns side by side in one row of 256. -/
def wide (a : S16x2048x128.Idx → α) : S16384x256.Idx → α := shapeCast S16384x256 a shapeCasts_S16x2048x128_S16384x256

/-- Where the element at row `r`, column `j` of the left halves lies in the rows of 256: the same row and column. -/
def inLeft (i : S16384x128.Idx) : S16384x256.Idx :=
  ix2 (i 0) (⟨(i 1).val, by have h1 : (i 1).val < 128 := (i 1).isLt; omega⟩ : Fin 256)

/-- The left half of every row. -/
def left (x : S16384x256.Idx → α) : S16384x128.Idx → α := fun i => x (inLeft i)

/-- The rows of 128 columns, in 16 batches of 1024. -/
def tall (g : S16384x128.Idx → α) : S16x1024x128.Idx → α := shapeCast S16x1024x128 g shapeCasts_S16384x128_S16x1024x128

/-- The row of the left halves that becomes row `i 1` of batch `i 0`. -/
def leftRow (i : S16x1024x128.Idx) : S16384x128.Idx :=
  ix2 (⟨(i 0).val * 1024 + (i 1).val, by have h0 : (i 0).val < 16 := (i 0).isLt; have h1 : (i 1).val < 1024 := (i 1).isLt; omega⟩ : Fin 16384) (i 2)

/-- The element of the argument the reference takes for `i`: the row of twice the number. -/
def evenRow (i : S16x1024x128.Idx) : S16x2048x128.Idx :=
  ix3 (i 0) (⟨2 * (i 1).val, by have h1 : (i 1).val < 1024 := (i 1).isLt; omega⟩ : Fin 2048) (i 2)

/-- An element of the batches of 1024 rows is the element of the left halves at the same row-major position. -/
theorem tall_apply (g : S16384x128.Idx → α) (i : S16x1024x128.Idx) : tall g i = g (leftRow i) := by
  refine shapeCast_apply g _ i (leftRow i) ?_
  rw [Shape.rowMajor_val_two, Shape.rowMajor_val_three]
  simp [leftRow]

/-- The left half of row `b·1024 + s` of the rows of 256 is row `2·s` of batch `b` of the argument. -/
theorem left_wide_apply (a : S16x2048x128.Idx → α) (i : S16x1024x128.Idx) : left (wide a) (leftRow i) = a (evenRow i) := by
  refine shapeCast_apply a _ _ (evenRow i) ?_
  rw [Shape.rowMajor_val_two, Shape.rowMajor_val_three]
  simp [leftRow, evenRow, inLeft]
  omega

/-- What the reference's strided slice reads: the even rows. -/
theorem slice_apply (a : S16x2048x128.Idx → α) (h : S16x2048x128.SlicesBy ![0, 0, 0] ![1, 2, 1] S16x1024x128) (i : S16x1024x128.Idx) :
    Host.slice S16x1024x128 ![0, 0, 0] ![1, 2, 1] a h i = a (evenRow i) := by
  rw [Host.slice_apply, Shape.Idx.norm3]
  refine congrArg a ?_
  unfold evenRow
  congr 1 <;> apply Fin.ext <;> simp

/-- THE EQUATION: widening the rows, keeping the left halves and batching them again is the slice of every second row. -/
theorem tall_left_wide (a : S16x2048x128.Idx → α) (h : S16x2048x128.SlicesBy ![0, 0, 0] ![1, 2, 1] S16x1024x128) :
    tall (left (wide a)) = Host.slice S16x1024x128 ![0, 0, 0] ![1, 2, 1] a h := by
  funext i
  rw [tall_apply, left_wide_apply, slice_apply]

end Cert.Proof.EvenRows

end
-- ==== Proof.Blocks.lean ====
/-
  The blocks the kernel copies: one per vector subcore, 512 rows of the left half of the rows of 256 into the same 512
  rows of the result. The 32 blocks of the result are disjoint and cover it; the 32 blocks of the source are disjoint.
-/
module

public import proofs.«01_k».proof.Proof.Even
public import proofs.«01_k».proof.Proof.Gen.KernelIdeal.Skeleton

@[expose] public section

noncomputable section

namespace Cert.Proof.EvenRows

open Cert.KernelIdeal Cert.KernelIdeal.Gen
open Idealize.ShloMosaic

/-- The grid point of vector subcore `s` of SparseCore `c`. -/
def gridPt (c : Fin (grid0.bound 0)) (s : Fin (grid0.bound 1)) : grid0.Coords :=
  fun | 0 => c | 1 => s | ⟨_ + 2, h⟩ => absurd h (Nat.not_lt.2 (Nat.le_add_left _ _))

/-- A vector subcore of the grid, by the SparseCore's number and its own. -/
abbrev Sub : Type := Fin 2 × Fin 16

/-- Its grid point. -/
abbrev Sub.pt (t : Sub) : grid0.Coords := gridPt t.1 t.2

/-- The source block of grid point `L`, as the kernel slices it. -/
abbrev srcRef (L : grid0.Coords) : Memref sig .scVector .hbm S512x128 .f32 :=
  (Memref.whole main_v0_scv : Memref sig .scVector .hbm S16384x256 .f32).slice
    (Rect.unit (s := S16384x256) (k0_off2 L) S512x128.size (k0_off2_inb L)) (fun _ => rfl)

/-- The result's block of grid point `L`, as the kernel slices it. -/
abbrev dstRef (L : grid0.Coords) : Memref sig .scVector .hbm S512x128 .f32 :=
  (Memref.whole main_v1_scv : Memref sig .scVector .hbm S16384x128 .f32).slice
    (Rect.unit (s := S16384x128) (k0_off1 L) S512x128.size (k0_off1_inb L)) (fun _ => rfl)

/-- The elements of the source block. -/
abbrev srcSet (L : grid0.Coords) : Finset S16384x256.Idx := (srcRef L).view.set
/-- The elements of the result's block. -/
abbrev dstSet (L : grid0.Coords) : Finset S16384x128.Idx := (dstRef L).view.set

/-- The block's first row: subcore `s` of SparseCore `c` has number `2·s + c`, and 512 rows. -/
def firstRow (t : Sub) : Nat := 1024 * t.2.val + 512 * t.1.val

theorem srcSet_eq (L : grid0.Coords) : srcSet L = (Rect.unit (s := S16384x256) (k0_off2 L) S512x128.size (k0_off2_inb L)).set :=
  View.set_slice_whole _ _
theorem dstSet_eq (L : grid0.Coords) : dstSet L = (Rect.unit (s := S16384x128) (k0_off1 L) S512x128.size (k0_off1_inb L)).set :=
  View.set_slice_whole _ _

/-- The rows of a source block. -/
theorem row_of_mem_src (t : Sub) (i : S16384x256.Idx) (h : i ∈ srcSet t.pt) :
    firstRow t ≤ (i 0).val ∧ (i 0).val < firstRow t + 512 := by
  rw [srcSet_eq, Rect.mem_set_unit] at h
  have h0 := h 0
  rw [k0_off2_eq] at h0
  exact h0

/-- An element is in a block of the result exactly when its row is among the block's 512. -/
theorem mem_dst (t : Sub) (i : S16384x128.Idx) :
    i ∈ dstSet t.pt ↔ firstRow t ≤ (i 0).val ∧ (i 0).val < firstRow t + 512 := by
  rw [dstSet_eq, Rect.mem_set_unit, k0_off1_eq]
  constructor
  · exact fun h => h 0
  · intro h a
    match a with
    | ⟨0, _⟩ => exact h
    | ⟨1, _⟩ => exact ⟨Nat.zero_le _, (Nat.zero_add 128).symm ▸ (i 1).isLt⟩

/-- Two subcores whose blocks share a row are the same subcore. -/
theorem sub_eq_of_row {t t' : Sub} {r : Nat} (h : firstRow t ≤ r ∧ r < firstRow t + 512) (h' : firstRow t' ≤ r ∧ r < firstRow t' + 512) :
    t = t' := by
  obtain ⟨⟨c, hc⟩, ⟨s, hs⟩⟩ := t
  obtain ⟨⟨c', hc'⟩, ⟨s', hs'⟩⟩ := t'
  simp only [firstRow] at h h'
  have e1 : c = c' := by omega
  have e2 : s = s' := by omega
  subst e1 e2
  rfl

/-- The source blocks are disjoint. -/
theorem src_disjoint : ∀ t ∈ (Finset.univ : Finset Sub), ∀ t' ∈ (Finset.univ : Finset Sub), t ≠ t' → Disjoint (srcSet t.pt) (srcSet t'.pt) :=
  fun t _ t' _ hne => Finset.disjoint_left.mpr fun i h h' => hne (sub_eq_of_row (row_of_mem_src t i h) (row_of_mem_src t' i h'))

/-- The result's blocks are disjoint, -/
theorem dst_disjoint : ∀ t ∈ (Finset.univ : Finset Sub), ∀ t' ∈ (Finset.univ : Finset Sub), t ≠ t' → Disjoint (dstSet t.pt) (dstSet t'.pt) :=
  fun t _ t' _ hne => Finset.disjoint_left.mpr fun i h h' => hne (sub_eq_of_row ((mem_dst t i).mp h) ((mem_dst t' i).mp h'))

/-- and cover it. -/
theorem dst_cover : (Finset.univ : Finset Sub).biUnion (fun t => dstSet t.pt) = Finset.univ := by
  refine Finset.eq_univ_iff_forall.mpr fun i => Finset.mem_biUnion.mpr ?_
  have hi : (i 0).val < 16384 := (i 0).isLt
  refine ⟨(⟨(i 0).val / 512 % 2, by omega⟩, ⟨(i 0).val / 1024, by omega⟩), Finset.mem_univ _, (mem_dst _ i).mpr ?_⟩
  simp only [firstRow]
  omega

/-- Every element of the source blocks' union, the part of the source the kernel reads. -/
def srcAll : Finset S16384x256.Idx := (Finset.univ : Finset Sub).biUnion fun t => srcSet t.pt

/-- Where the two blocks put an element of the block: the source's place is the result's, read in the left half. -/
theorem src_emb (L : grid0.Coords) (x : S512x128.Idx) : (srcRef L).view.emb x = inLeft ((dstRef L).view.emb x) := by
  show (Rect.unit (s := S16384x256) (k0_off2 L) S512x128.size (k0_off2_inb L)).emb x
    = inLeft ((Rect.unit (s := S16384x128) (k0_off1 L) S512x128.size (k0_off1_inb L)).emb x)
  funext a
  apply Fin.ext
  match a with
  | ⟨0, _⟩ =>
    show k0_off2 L 0 + 1 * (x 0).val = k0_off1 L 0 + 1 * (x 0).val
    rw [k0_off1_eq, k0_off2_eq]
  | ⟨1, _⟩ =>
    show k0_off2 L 1 + 1 * (x 1).val = k0_off1 L 1 + 1 * (x 1).val
    rw [k0_off1_eq, k0_off2_eq]

/-- WHAT ONE COPY LEAVES: on its block, the result holds the left half of the source's rows. -/
theorem copied {F : FTy → Type} (L : grid0.Coords) (X : S16384x256.Idx → Elt F .f32) (o : S16384x128.Idx → Elt F .f32) :
    ∀ i ∈ dstSet L, (dstRef L).view.write (Elt F) o ((srcRef L).view.read (Elt F) X) Finset.univ i = left X i := by
  intro i hi
  obtain ⟨x, -, rfl⟩ := Finset.mem_map.mp hi
  rw [View.write_emb_of_mem _ _ (Finset.mem_univ x)]
  show X ((srcRef L).view.emb x) = X (inLeft ((dstRef L).view.emb x))
  rw [src_emb]

end Cert.Proof.EvenRows

end
-- ==== Proof.Launch.lean ====
/-
  The kernel's launch as the SparseCore launch theorem sees it: the ghost state, the arrays' locations, what each vector
  subcore is handed and hands back.
-/
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Blocks

@[expose] public section

noncomputable section

namespace Cert.Proof.EvenRows

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and its ghost state -/

/-- The labels of the program's bodies, below the SparseCore calls'. -/
abbrev Λb : Labels := Pipeline.Sig Λ₀ (Fin 0) fun p => (pcfgs (F := F) p).Adm
/-- The program's one SparseCore call. -/
abbrev K : SparseCore.Cfg τ sig (Λb (F := F)) 1 := sc (F := F)
/-- The bodies the labels run. -/
abbrev D [FloatOps F] : Defs nD τ sig (Elt F) (Λb (F := F)) := Pipeline.defs pcfgs defs₀
/-- No loop of the program asks for a variant. -/
abbrev 𝒱₀ : Variants := Variants.none
abbrev 𝒱 : Variants := 𝒱₀.lift
abbrev v₀ : 𝒱.V := Sum.inl none

/-- The launch's semaphores are distinct and no kernel's, and no buffer of a SparseCore is shared by its tasks. -/
theorem launchFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq _ := rfl

/-- The handshakes' rounds. -/
abbrev UH : Type := URounds (GSem nD τ sig) ℕ
/-- Beside them, the counters of the transfers in flight. -/
abbrev UU : Type := UH × Counters

local notation "𝕄" => MT nD τ sig (HIx 1) (Elt F) ℕ UU ℕ

/-- Where the handshakes' rounds live in the ghost state. -/
abbrev EH : Emb UH (MT nD τ sig (HIx 1) (Elt F) ℕ UU ℕ) := embL

/-! ## The arrays -/

/-- The argument; it at 256 columns; the SparseCores' result; the program's result. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable (m : (ℓ : Loc nD τ sig) → Buf (Elt F) ℓ) (ρ : Dev nD → PrngReg)

/-- What the arrays hold: the widened argument, its left halves, and those batched again. -/
abbrev wideOf (d : Dev nD) : Buf (Elt F) (xLoc d) := wide (m (aLoc d))
abbrev leftOf (d : Dev nD) : Buf (Elt F) (oLoc d) := left (wideOf m d)
abbrev tallOf (d : Dev nD) : Buf (Elt F) (rLoc d) := tall (leftOf m d)

/-- A subcore's share before its copy: its block of the source, its block of the result at what the launch found there. -/
def before (d : Dev nD) (L : grid0.Coords) : sProp 𝕄 :=
  iprop((xLoc d ↦[srcSet L]{fullShare} wideOf m d) ∗ oLoc d ↦[dstSet L]{fullShare} m (oLoc d))

/-- Its share after: the same, the block of the result at the left halves. -/
def after (d : Dev nD) (L : grid0.Coords) : sProp 𝕄 :=
  iprop((xLoc d ↦[srcSet L]{fullShare} wideOf m d) ∗ oLoc d ↦[dstSet L]{fullShare} leftOf m d)

instance before_storable (d : Dev nD) (L : grid0.Coords) : BI.Storable (upEmb : UEmb _ 𝕄) (before m d L) := by
  unfold before; infer_instance
instance after_storable (d : Dev nD) (L : grid0.Coords) : BI.Storable (upEmb : UEmb _ 𝕄) (after m d L) := by
  unfold after; infer_instance

/-- What the call passes: each subcore its share, each SparseCore its sixteen subcores'. -/
def P : (K (F := F)).Pay (nD := nD) (Val := Elt F) (Name := ℕ) (U := UU) where
  st := fun q d c => match q with | 0 => bigSep (Finset.univ : Finset (Fin 16)) fun s => before m d (Sub.pt (c, s))
  dn := fun q d c => match q with | 0 => bigSep (Finset.univ : Finset (Fin 16)) fun s => after m d (Sub.pt (c, s))
  go := fun q d c s => match q with | 0 => before m d (Sub.pt (c, s))
  td := fun q d c s => match q with | 0 => after m d (Sub.pt (c, s))
  x := fun _ _ => iprop(emp)

instance P_storable : (P (F := F) m).IsStorable where
  st q d c := match q with | 0 => by unfold P; infer_instance
  dn q d c := match q with | 0 => by unfold P; infer_instance
  go q d c s := match q with | 0 => by unfold P; infer_instance
  td q d c s := match q with | 0 => by unfold P; infer_instance

/-- A SparseCore's share is its subcores', going out and coming back. -/
theorem vecSplit : (K (F := F)).VecSplit' (P m) 0 := by
  intro d c
  show (bigSep (Finset.univ : Finset (Fin 16)) fun s => before m d (Sub.pt (c, s))) ⊢
    |={Set.univ}=> iprop((bigSep (Finset.univ : Finset (Fin 16)) fun s => before m d (Sub.pt (c, s)))
      ∗ ((bigSep (Finset.univ : Finset (Fin 16)) fun s => after m d (Sub.pt (c, s)))
          -∗ bigSep (Finset.univ : Finset (Fin 16)) fun s => after m d (Sub.pt (c, s))))
  iintro H
  imodintro
  isplitl [H]; · iexact H
  iintro H
  iexact H

/-- The ghost state at the launch: the handshakes' rounds, no transfer in flight. -/
def u₀ : UU := (initOf (K (F := F)).hsCells (K (F := F)).hsToks, 1)

/-- The ghost state at the launch deals the handshakes theirs and nothing to the threads. -/
theorem deal_u₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_of : ∀ {I : Type} (s : Finset I), (bigSep s fun _ => iprop(emp)) = (iprop(emp) : sProp 𝕄) := fun s => bigSep_emp_const s
  show ownU (initOf (K (F := F)).hsCells (K (F := F)).hsToks, 1)
    ⊢ |={Set.univ}=> iprop(_ ∗ _ ∗ bigSep Finset.univ fun _ : Thread nD τ => bigSep Finset.univ fun _ : Fin 1 => iprop(emp))
  simp only [none_of]
  iintro Hu
  ihave H := (ownU_pair _ _) $$ Hu
  icases H with ⟨HH, -⟩
  imodintro
  isplitl [HH]; · iexact HH
  isplitr <;> iempintro

end Cert.Proof.EvenRows

end
-- ==== Proof.Task.lean ====
/-
  One vector subcore's task: the copy of its block, started and waited for. Nothing else is in flight on the semaphore
  it waits on, so when the wait returns the whole block has landed.
-/
module

public import proofs.«01_k».proof.Proof.Launch

@[expose] public section

noncomputable section

namespace Cert.Proof.EvenRows

open Cert.KernelIdeal Cert.KernelIdeal.Gen

open Idealize.ShloMosaic
open Idealize.ShloMosaic.SparseCore (S V T)
open Idealize.ShloMosaic.SparseCore.Cfg (HIx Pay ownBufs ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
-- the two arrays as the body table hands them to the kernel
local notation "xW" => (Memref.whole Cert.KernelIdeal.main_v0_scv : Memref Cert.KernelIdeal.sig Kind.scVector Space.hbm Cert.KernelIdeal.S16384x256 EltTy.f32)
local notation "oW" => (Memref.whole Cert.KernelIdeal.main_v1_scv : Memref Cert.KernelIdeal.sig Kind.scVector Space.hbm Cert.KernelIdeal.S16384x128 EltTy.f32)

variable (m : (ℓ : Loc nD τ sig) → Buf (Elt F) ℓ)

/-- The thread of grid point `L`. -/
abbrev thr (d : Dev nD) (L : grid0.Coords) : Thread nD τ := V d ((L 0).castLE hcore0) ((L 1).castLE hsub0)

/-- The semaphore its copy signals. -/
abbrev copyCell (d : Dev nD) (L : grid0.Coords) : GSem nD τ sig := (thr d L, .dma cc0_scratch0.sem)

omit [FloatOps F] in
/-- The copy's semaphore is among the subcore's own. -/
theorem ownSems0_copy (d : Dev nD) (L : grid0.Coords) :
    (ownSems0 (thr d L) : sProp 𝕄)
      = iprop(semVal (copyCell d L) 0 ∗ bigSep ((ownCells (thr d L)).erase (copyCell d L)) fun g => semVal g 0) := by
  unfold SparseCore.Cfg.ownSems0
  exact SparseCore.bigSep_erase' ((mem_ownCells (g := copyCell d L)).mpr
    ⟨rfl, by show (SemLoc.dma cc0_scratch0.sem : SemLoc sig).isScoped .scVector = true; decide⟩)

/-- THE TASK: from its block of the source and its block of the result, the kernel leaves the left halves in the latter
    and its semaphore at zero. -/
theorem task (d : Dev nD) (L : grid0.Coords) (O : CellTallies nD τ sig (HIx 1)) (W : Waits sig (HIx 1)) (hO : ∀ g, O g none = 0) :
    iprop(levAts (K (F := F)).L (K (F := F)).lev ∗ emp ∗ before m d L
        ∗ scopedBufs (thr d L) ∗ scopedSems0 (thr d L) ∗ owes (thr d L) O W)
      ⊢ wp frame (wpE (defs₀ (F := F)) 𝒱₀ (thr d L) none) Set.univ
          (cc0__sampler_body L xW (Memref.isWhole_whole _) oW (Memref.isWhole_whole _) cc0_scratch0)
          fun _ => iprop(after m d L ∗ scopedBufs (thr d L) ∗ scopedSems0 (thr d L)
            ∗ ∃ W', ⌜∀ p ∈ W', p ∈ W ∨ p.2 = none⌝ ∗ owes (thr d L) O W') := by
  simp only [cc0__sampler_body_eq_skeleton]; unfold cc0__sampler_body_skel
  rw [SparseCore.Cfg.scopedSems0_V (Val := Elt F) d _ _, ownSems0_copy]
  unfold before after
  iintro ⟨#Hlv, -, ⟨Hx, Ho⟩, Hb, ⟨Hsem, Hsems⟩, HO⟩
  ihave Hmw := ((K (F := F)).mayWaits_none (thr := thr d L) hO) $$ Hlv
  ihave Hx' := (Entails.of_eq (show (xLoc d ↦[srcSet L]{fullShare} wideOf m d : sProp 𝕄)
    = ((srcRef L).view.loc (thr d L) ↦[(srcRef L).view.set]{fullShare} wideOf m d) from rfl)) $$ Hx
  ihave Ho' := (Entails.of_eq (show (oLoc d ↦[dstSet L]{fullShare} m (oLoc d) : sProp 𝕄)
    = ((dstRef L).view.loc (thr d L) ↦[(dstRef L).view.set]{fullShare} m (oLoc d)) from rfl)) $$ Ho
  sl_exec (disch := exact View.amount_pos _ _ (show 0 < S512x128.numel by decide))
  sl_step
  rw [← View.write_univ_eq_writes_whole, View.writes_nil]
  ihave Ho := (Entails.of_eq (pointsTo_congr (copied L (wideOf m d) (m (oLoc d))))) $$ Ho'
  isplitl [Hx' Ho]
  · isplitl [Hx']; · iexact Hx'
    iexact Ho
  isplitl [Hb]; · iexact Hb
  isplitl [Hsem Hsems]
  · isplitl [Hsem]; · iexact Hsem
    iexact Hsems
  iexists (insert (SemLoc.dma cc0_scratch0.sem, (default : HIx 1)) W); isplitr
  · ipureintro; intro p hp
    rcases Finset.mem_insert.mp hp with hp | hp
    · exact .inr (hp ▸ rfl)
    · exact .inl hp
  · iexact HO

/-- The body table's entry for a vector subcore: the kernel at that subcore's grid point. -/
theorem defs₀_subcore (c : Fin τ.nSC) (s : Fin τ.nSub) :
    defs₀ (F := F) (.scVector c s) 0 ()
      = SparseCore.onTile hcore0 hsub0 (fun c s => cc0__sampler_body (gridPt c s)
          xW (Memref.isWhole_whole _) oW (Memref.isWhole_whole _) cc0_scratch0) ⟨⟩ c s := rfl

/-- What the launch asks of the call's tasks: `task` at each subcore of the grid. -/
theorem tasks : (K (F := F)).TileObl (D (F := F)) 𝒱 (P m) v₀ 0 := by
  intro d c i O W hO _ _
  -- the kernel owes no signal of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hin : ((K (F := F)).core 0 c).val < grid0.bound 0 ∧ ((K (F := F)).sub 0 i).val < grid0.bound 1 := ⟨c.isLt, i.isLt⟩
  rw [defs₀_subcore]; simp only [SparseCore.onTile, hin, and_self, ↓reduceDIte]
  rw [show (P m).td 0 d c i = after m d (gridPt ⟨_, hin.1⟩ ⟨_, hin.2⟩) from rfl]
  refine (task m d (gridPt ⟨_, hin.1⟩ ⟨_, hin.2⟩) O W hO).trans (wp_mono frame _ _ fun _ => ?_)
  iintro ⟨Ha, Hb, Hs, %W', %hW', HO⟩
  isplitl [Ha]; · iexact Ha
  isplitl [Hb]; · iexact Hb
  isplitl [Hs]; · iexact Hs
  iexists W'; isplitr
  · ipureintro; exact fun p hp => (hW' p hp).imp_right Or.inl
  · iexact HO

end Cert.Proof.EvenRows

end
-- ==== Proof.Main.lean ====
/-
  The whole run: the argument widened, the SparseCores' call, its result batched again; what the program leaves, and that
  every semaphore is back at zero. Stated for any float values, so that it serves the kernel at its words and at the
  extended reals alike.
-/
module

public import proofs.«01_k».proof.Proof.Task

@[expose] public section

noncomputable section

namespace Cert.Proof.EvenRows

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays as @main holds them -/

/-- The four arrays of @main. -/
abbrev aRef : DevRef τ sig := Proc.devRef .tc (main_arg0 : Ref sig .tc)
abbrev xRef : DevRef τ sig := Proc.devRef .tc (main_v0 : Ref sig .tc)
abbrev oRef : DevRef τ sig := Proc.devRef .tc (main_v1 : Ref sig .tc)
abbrev rRef : DevRef τ sig := Proc.devRef .tc (main_v2 : Ref sig .tc)
abbrev arrays : Finset (DevRef τ sig) := {aRef, xRef, oRef, rRef}

/-- @main's two reshapes: the argument widened, the SparseCores' result batched. -/
abbrev widen : HloOp τ sig (Elt F) := StableHlo.reshape main_arg0 main_v0 (rfl : (.f32 : EltTy) = .f32) shapeCasts_S16x2048x128_S16384x256
abbrev batch : HloOp τ sig (Elt F) := StableHlo.reshape main_v1 main_v2 (rfl : (.f32 : EltTy) = .f32) shapeCasts_S16384x128_S16x1024x128

omit [FloatOps F] in
/-- The arrays held at a valuation, one by one. -/
theorem held_arrays (d : Dev nD) (W : Valuation τ sig (Elt F)) :
    (held (T d) arrays W : sProp 𝕄)
      = iprop((aLoc d ↦{fullShare} W aRef) ∗ (xLoc d ↦{fullShare} W xRef) ∗ (oLoc d ↦{fullShare} W oRef) ∗ rLoc d ↦{fullShare} W rRef) := by
  unfold held arrays
  rw [SparseCore.bigSep_insert' (by decide), SparseCore.bigSep_insert' (by decide), SparseCore.bigSep_insert' (by decide), bigSep_singleton]

/-- What the arrays hold at the launch; -/
def atLaunch (d : Dev nD) : Valuation τ sig (Elt F) := fun b => m (d, b)
/-- once the argument is widened; -/
def widened (d : Dev nD) : Valuation τ sig (Elt F) := (widen (F := F)).result (atLaunch m d)
/-- once the SparseCores have run; -/
def copiedOut (d : Dev nD) : Valuation τ sig (Elt F) := Function.update (widened m d) oRef (leftOf m d)
/-- and at the end. -/
def batched (d : Dev nD) : Valuation τ sig (Elt F) := (batch (F := F)).result (copiedOut m d)

omit [FloatOps F] in
/-- The launch hands @main its four arrays. -/
theorem unscoped_arrays (d : Dev nD) :
    (unscopedBufs d (fun b => m ((SparseCore.T d).loc b)) : sProp 𝕄) = held (T d) arrays (atLaunch m d) := by
  rw [held_arrays]
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

omit [FloatOps F] in
theorem widened_a (d : Dev nD) : widened m d aRef = m (aLoc d) :=
  StableHlo.reshape_result_ne (x := main_arg0) (y := main_v0) _ _ _ _ _ (show main_arg0 ≠ main_v0 by decide)
omit [FloatOps F] in
theorem widened_x (d : Dev nD) : widened m d xRef = wideOf m d :=
  StableHlo.reshape_result main_arg0 main_v0 _ _ _ _ _
omit [FloatOps F] in
theorem widened_o (d : Dev nD) : widened m d oRef = m (oLoc d) :=
  StableHlo.reshape_result_ne (x := main_arg0) (y := main_v0) _ _ _ _ _ (show main_v1 ≠ main_v0 by decide)

omit [FloatOps F] in
theorem copiedOut_a (d : Dev nD) : copiedOut m d aRef = m (aLoc d) :=
  (Function.update_of_ne (show aRef ≠ oRef by decide) _ _).trans (widened_a m d)
omit [FloatOps F] in
theorem copiedOut_x (d : Dev nD) : copiedOut m d xRef = wideOf m d :=
  (Function.update_of_ne (show xRef ≠ oRef by decide) _ _).trans (widened_x m d)
omit [FloatOps F] in
theorem copiedOut_o (d : Dev nD) : copiedOut m d oRef = leftOf m d := Function.update_self _ _ _
omit [FloatOps F] in
theorem copiedOut_r (d : Dev nD) : copiedOut m d rRef = widened m d rRef := Function.update_of_ne (show rRef ≠ oRef by decide) _ _

omit [FloatOps F] in
theorem batched_a (d : Dev nD) : batched m d aRef = m (aLoc d) :=
  (StableHlo.reshape_result_ne (x := main_v1) (y := main_v2) _ _ _ _ _ (show main_arg0 ≠ main_v2 by decide)).trans (copiedOut_a m d)
omit [FloatOps F] in
theorem batched_r (d : Dev nD) : batched m d rRef = tallOf m d :=
  (StableHlo.reshape_result main_v1 main_v2 _ _ _ _ _).trans (by
    show (fun i => shapeCast S16x1024x128 (copiedOut m d oRef) _ i) = _
    rw [copiedOut_o]; rfl)

omit [FloatOps F] in
/-- The arrays after the widening, one by one; -/
theorem held_widened (d : Dev nD) : (held (T d) arrays ((widen (F := F)).result (atLaunch m d)) : sProp 𝕄)
    = iprop((aLoc d ↦{fullShare} m (aLoc d)) ∗ (xLoc d ↦{fullShare} wideOf m d) ∗ (oLoc d ↦{fullShare} m (oLoc d)) ∗ rLoc d ↦{fullShare} widened m d rRef) := by
  rw [← widened_a m d, ← widened_x m d, ← widened_o m d]
  exact held_arrays d (widened m d)

omit [FloatOps F] in
/-- before the batching; -/
theorem held_copiedOut (d : Dev nD) : (held (T d) arrays (copiedOut m d) : sProp 𝕄)
    = iprop((aLoc d ↦{fullShare} m (aLoc d)) ∗ (xLoc d ↦{fullShare} wideOf m d) ∗ (oLoc d ↦{fullShare} leftOf m d) ∗ rLoc d ↦{fullShare} widened m d rRef) := by
  rw [held_arrays, copiedOut_a, copiedOut_x, copiedOut_o, copiedOut_r]

omit [FloatOps F] in
/-- and after it, the argument and the result as stated and the other two at whatever they hold. -/
theorem held_batched (d : Dev nD) : (held (T d) arrays ((batch (F := F)).result (copiedOut m d)) : sProp 𝕄)
    = iprop((aLoc d ↦{fullShare} m (aLoc d)) ∗ (xLoc d ↦{fullShare} batched m d xRef) ∗ (oLoc d ↦{fullShare} batched m d oRef) ∗ rLoc d ↦{fullShare} tallOf m d) := by
  rw [← batched_a m d, ← batched_r m d]
  exact held_arrays d (batched m d)

/-! ## What the call takes and gives back -/

omit [FloatOps F] in
/-- The subcores' shares together, the result's blocks at `f`: the part of the source the kernel reads, and the result
    whole. -/
theorem shares (d : Dev nD) (f : Buf (Elt F) (oLoc d)) :
    (bigSep (Finset.univ : Finset (Fin 2)) fun c => bigSep (Finset.univ : Finset (Fin 16)) fun s =>
        (iprop((xLoc d ↦[srcSet (Sub.pt (c, s))]{fullShare} wideOf m d) ∗ oLoc d ↦[dstSet (Sub.pt (c, s))]{fullShare} f) : sProp 𝕄))
      = iprop((xLoc d ↦[srcAll]{fullShare} wideOf m d) ∗ oLoc d ↦{fullShare} f) := by
  rw [← bigSep_univ_prod (fun t : Sub => (iprop((xLoc d ↦[srcSet t.pt]{fullShare} wideOf m d) ∗ oLoc d ↦[dstSet t.pt]{fullShare} f) : sProp 𝕄)),
    bigSep_sep', ← pointsTo_biUnion Finset.univ (ℓ := xLoc d) (fun t : Sub => srcSet t.pt) src_disjoint,
    ← pointsTo_biUnion Finset.univ (ℓ := oLoc d) (fun t : Sub => dstSet t.pt) dst_disjoint, dst_cover]
  rfl

omit [FloatOps F] in
theorem starts (d : Dev nD) : (bigSep Finset.univ fun c : Fin ((K (F := F)).nCore 0) => (P m).st 0 d c)
    = iprop((xLoc d ↦[srcAll]{fullShare} wideOf m d) ∗ oLoc d ↦{fullShare} m (oLoc d)) := shares m d (m (oLoc d))
omit [FloatOps F] in
theorem ends (d : Dev nD) : (bigSep Finset.univ fun c : Fin ((K (F := F)).nCore 0) => (P m).dn 0 d c)
    = iprop((xLoc d ↦[srcAll]{fullShare} wideOf m d) ∗ oLoc d ↦{fullShare} leftOf m d) := shares m d (leftOf m d)

omit [FloatOps F] in
/-- The source is the part the kernel reads and the rest. -/
theorem source_split (d : Dev nD) : (xLoc d ↦{fullShare} wideOf m d : sProp 𝕄)
    ⊣⊢ iprop((xLoc d ↦[srcAll]{fullShare} wideOf m d) ∗ xLoc d ↦[Finset.univ \ srcAll]{fullShare} wideOf m d) :=
  pointsTo_split_subset (Finset.subset_univ _)

/-! ## @main -/

/-- What @main keeps to the end: the argument as it was, the result. -/
abbrev kept (d : Dev nD) : sProp 𝕄 := iprop((aLoc d ↦{fullShare} m (aLoc d)) ∗ rLoc d ↦{fullShare} tallOf m d)

/-- @main on a device's TensorCore: the widening, the call, the batching. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ kept m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := widen) (S := arrays)
    (show ({aRef, xRef} : Finset (DevRef τ sig)) ⊆ arrays by decide) (V := atLaunch m d)) $$ [Hb Hheld]
  · isplitl [Hb]; · iexact Hb
    iexact Hheld
  iintro ⟨Hb, Hheld⟩
  rw [wp_ret]; imodintro
  ihave Hh := (Entails.of_eq (held_widened m d)) $$ Hheld
  icases Hh with ⟨Ha, Hx, Ho, Hr⟩
  ihave Hx' := (source_split m d).1 $$ Hx
  icases Hx' with ⟨Hx, Hrest⟩
  iapply ((K (F := F)).wp_run (D (F := F)) 𝒱 (EH := EH) (P := P m) κ d 0) $$ [Hst Hx Ho Hb Ha Hr Hts Hrest]
  isplitr; · iexact Hctx
  isplitl [Hst]; · iexact Hst
  isplitl [Hx Ho]
  · rw [starts]
    isplitl [Hx] <;> iassumption
  iintro ⟨Hst, Hdn⟩
  ihave Hdn' := (Entails.of_eq (ends m d)) $$ Hdn
  icases Hdn' with ⟨Hx, Ho⟩
  ihave Hx' := (source_split m d).2 $$ [Hx Hrest]
  · isplitl [Hx] <;> iassumption
  iapply (wp_hlo_within 𝒱 (SparseCore.T d) none Set.univ (op := batch) (S := arrays)
    (show ({oRef, rRef} : Finset (DevRef τ sig)) ⊆ arrays by decide) (V := copiedOut m d)) $$ [Hb Ha Hx' Ho Hr]
  · isplitl [Hb]; · iexact Hb
    rw [held_copiedOut]
    isplitl [Ha]; · iexact Ha
    isplitl [Hx']; · iexact Hx'
    isplitl [Ho]; · iexact Ho
    iexact Hr
  iintro ⟨Hb, Hheld⟩
  ihave Hh := (Entails.of_eq (held_batched m d)) $$ Hheld
  icases Hh with ⟨Ha, -, -, Hr⟩
  rw [wp_ret]; imodintro; imodintro
  isplitl [Hst]; · iexact Hst
  isplitl [Ha Hr]
  · isplitl [Ha] <;> iassumption
  isplitl [Hb] <;> iassumption

/-- What holds of a device's memory at the end: the argument unchanged, the result the left halves batched. -/
def Done (d : Dev nD) (mem : (ℓ : Loc nD τ sig) → Buf (Elt F) ℓ) : Prop :=
  mem (aLoc d) = m (aLoc d) ∧ mem (rLoc d) = tallOf m d

/-- Holding the two arrays, @main's end says what the memory holds there. -/
theorem done_of_kept (d : Dev nD) (s' : Phys nD τ sig (Elt F)) : iprop(kept m d ∗ SI s') ⊢ (⌜Done m d s'.mem.mem⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := tallOf m d)) $$ [HSI Hr]
  · isplitl [HSI] <;> iassumption
  icases H with %hr
  ipureintro; exact ⟨funext fun i => ha i (Finset.mem_univ i), funext fun i => hr i (Finset.mem_univ i)⟩

/-- THE RUN: from any memory with every semaphore at zero the program terminates without a fault, on every device the
    argument is unchanged and the result is the left halves of the widened argument, batched; every semaphore is at zero. -/
theorem run [∀ e, Nonempty (Elt F e)] :
    θ_run (Cert.KernelIdeal.defs (F := F)) (Cert.KernelIdeal.threads (F := F)) ⟨m, fun _ => 0, ρ⟩
      fun r => (∀ d : Dev nD, Done m d r.2.mem) ∧ r.2.sem = fun _ => 0 :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tasks m)
    (fun q _ => match q with | 0 => SparseCore.Cfg.VecSplit.of_plain (vecSplit m))
    m ρ main (fun _ => iprop(emp)) (kept m) (u₀ (F := F)) (sep_elim_left.trans (deal_u₀ m)) (main_run m ρ)
    (fun d s' => Done m d s'.mem.mem) (done_of_kept m) _ (fun _ h hz => ⟨h, hz⟩)

end Cert.Proof.EvenRows

end
-- ==== Proof.lean ====
/-
  The claim: the kernel, its idealization and the reference run, leave their arguments unchanged and every semaphore at
  zero; the idealization is the kernel's own text; and at the extended reals the kernel's result is the reference's.

  `Even` says what is computed, `Blocks` which block each vector subcore copies, `Launch` what each is handed, `Task`
  what one does, `Main` what the whole program does.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Main

@[expose] public section

noncomputable section

namespace Cert.Proof

open Idealize.ShloMosaic Idealize.SL.Sem Cert.Kernel

/-- The kernel runs at its words: `EvenRows.run`, whose program has the same text. -/
theorem frame_kernel : Cert.quiescent_Kernel := fun m ρ _ =>
  (θ_run Cert.KernelIdeal.defs _ _).mono (fun _ h => ⟨fun c => (h.1 c).1, h.2⟩) (EvenRows.run (F := Bits) m ρ)

/-- The kernel runs at the extended reals. -/
theorem frame_kernelIdeal : Cert.quiescent_KernelIdeal := fun m ρ _ =>
  (θ_run Cert.KernelIdeal.defs _ _).mono (fun _ h => ⟨fun c => (h.1 c).1, h.2⟩) (EvenRows.run (F := Ideal) m ρ)

/-- The reference runs; it names no semaphore, so none is left off zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals the kernel's result is the reference's: both are the even rows of the argument. -/
theorem same_value : Cert.algebraic_KernelIdeal_ReferenceIdeal := by
  intro m g m' g' _ hargs
  refine ⟨fun c => EvenRows.tallOf m c, ?_, ?_⟩
  · exact (θ_run Cert.KernelIdeal.defs _ _).mono (fun _ h c => ⟨(h.1 c).2, (h.1 c).1⟩) (EvenRows.run (F := Ideal) m g)
  · refine (θ_run Cert.ReferenceIdeal.defs _ _).mono (fun _ h c => ⟨(h c).1.trans ?_, (h c).2⟩)
      (Cert.ReferenceIdeal.Value.run (F := Ideal) m' g')
    rw [hargs c]
    exact (EvenRows.tall_left_wide _ _).symm

theorem claim : Cert.Claim := ⟨Cert.Kernel.Gen.facts, Cert.KernelIdeal.Gen.facts, Cert.ReferenceIdeal.Gen.facts,
  frame_kernel, frame_kernelIdeal, frame_referenceIdeal, trivial, same_value⟩

end Cert.Proof

end
